-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x100x100x64 : Shape := ⟨4, ![32, 100, 100, 64]⟩
abbrev S40000x32 : Shape := ⟨2, ![40000, 32]⟩
abbrev S1x1 : Shape := ⟨2, ![1, 1]⟩
abbrev S10000x128 : Shape := ⟨2, ![10000, 128]⟩
abbrev S_ : Shape := ⟨0, ![]⟩
abbrev S32x32x61 : Shape := ⟨3, ![32, 32, 61]⟩
abbrev S4x100x100x64 : Shape := ⟨4, ![4, 100, 100, 64]⟩
abbrev S4x32x61 : Shape := ⟨3, ![4, 32, 61]⟩
abbrev S1x100x100x64 : Shape := ⟨4, ![1, 100, 100, 64]⟩
abbrev S100x100x64 : Shape := ⟨3, ![100, 100, 64]⟩
abbrev S10000x64 : Shape := ⟨2, ![10000, 64]⟩
abbrev S128x64 : Shape := ⟨2, ![128, 64]⟩
abbrev S32x61 : Shape := ⟨2, ![32, 61]⟩
abbrev S1x32x61 : Shape := ⟨3, ![1, 32, 61]⟩
abbrev S32x32x1x61 : Shape := ⟨4, ![32, 32, 1, 61]⟩

abbrev nBuf : Space → Nat
  | .hbm => 17
  | .vmem => 5
  | .smem => 1
  | _ => 0

abbrev bufTy : (tb : Table) → Fin (tcTables nBuf tb) → BufTy
  | .hbm, ⟨0, _⟩ => ⟨S32x100x100x64, .f32⟩
  | .hbm, ⟨1, _⟩ => ⟨S40000x32, .f32⟩
  | .hbm, ⟨2, _⟩ => ⟨S1x1, .f32⟩
  | .hbm, ⟨3, _⟩ => ⟨S10000x128, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S1x1, .f32⟩
  | .hbm, ⟨15, _⟩ => ⟨S32x32x61, .f32⟩
  | .hbm, ⟨16, _⟩ => ⟨S32x32x1x61, .f32⟩
  | .local _ .vmem, ⟨0, _⟩ => ⟨S4x100x100x64, .f32⟩
  | .local _ .vmem, ⟨1, _⟩ => ⟨S4x100x100x64, .f32⟩
  | .local _ .vmem, ⟨2, _⟩ => ⟨S10000x128, .f32⟩
  | .local _ .vmem, ⟨3, _⟩ => ⟨S4x32x61, .f32⟩
  | .local _ .vmem, ⟨4, _⟩ => ⟨S4x32x61, .f32⟩
  | .local _ .smem, ⟨0, _⟩ => ⟨S1x1, .f32⟩
  | _, _ => ⟨S32x100x100x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x100x100x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x32x61 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x100x100x64 : Shape := ⟨4, ![32, 100, 100, 64]⟩
abbrev S40000x32 : Shape := ⟨2, ![40000, 32]⟩
abbrev S1x1 : Shape := ⟨2, ![1, 1]⟩
abbrev S_ : Shape := ⟨0, ![]⟩
abbrev S32x100x100x4 : Shape := ⟨4, ![32, 100, 100, 4]⟩
abbrev S32x40000 : Shape := ⟨2, ![32, 40000]⟩
abbrev S32x32 : Shape := ⟨2, ![32, 32]⟩
abbrev S32x32x1 : Shape := ⟨3, ![32, 32, 1]⟩
abbrev S32x32x16 : Shape := ⟨3, ![32, 32, 16]⟩
abbrev S32x32x13 : Shape := ⟨3, ![32, 32, 13]⟩
abbrev S32x32x61 : Shape := ⟨3, ![32, 32, 61]⟩
abbrev S32x32x1x61 : Shape := ⟨4, ![32, 32, 1, 61]⟩

abbrev nBuf : Space → Nat
  | .hbm => 275
  | .vmem => 0
  | .smem => 0
  | _ => 0

abbrev hbmTy0_0 (i : Nat) : BufTy := match i % 128 with
  | 0 => ⟨S32x100x100x64, .f32⟩
  | 1 => ⟨S40000x32, .f32⟩
  | 2 => ⟨S1x1, .f32⟩
  | 3 => ⟨S1x1, .f32⟩
  | 4 => ⟨S1x1, .f32⟩
  | 5 => ⟨S_, .f32⟩
  | 6 => ⟨S1x1, .f32⟩
  | 7 => ⟨S1x1, .f32⟩
  | 8 => ⟨S_, .f32⟩
  | 9 => ⟨S1x1, .f32⟩
  | 10 => ⟨S1x1, .f32⟩
  | 11 => ⟨S_, .f32⟩
  | 12 => ⟨S_, .f32⟩
  | 13 => ⟨S_, .f32⟩
  | 14 => ⟨S_, .f32⟩
  | 15 => ⟨S32x100x100x64, .f32⟩
  | 16 => ⟨S32x100x100x64, .i1⟩
  | 17 => ⟨S_, .f32⟩
  | 18 => ⟨S32x100x100x64, .f32⟩
  | 19 => ⟨S32x100x100x64, .f32⟩
  | 20 => ⟨S32x100x100x64, .f32⟩
  | 21 => ⟨S_, .f32⟩
  | 22 => ⟨S_, .f32⟩
  | 23 => ⟨S32x100x100x64, .f32⟩
  | 24 => ⟨S32x100x100x64, .f32⟩
  | 25 => ⟨S32x100x100x4, .f32⟩
  | 26 => ⟨S32x40000, .f32⟩
  | 27 => ⟨S32x32, .f32⟩
  | 28 => ⟨S32x100x100x4, .f32⟩
  | 29 => ⟨S32x40000, .f32⟩
  | 30 => ⟨S32x32, .f32⟩
  | 31 => ⟨S32x100x100x4, .f32⟩
  | 32 => ⟨S32x40000, .f32⟩
  | 33 => ⟨S32x32, .f32⟩
  | 34 => ⟨S32x100x100x4, .f32⟩
  | 35 => ⟨S32x40000, .f32⟩
  | 36 => ⟨S32x32, .f32⟩
  | 37 => ⟨S32x100x100x4, .f32⟩
  | 38 => ⟨S32x40000, .f32⟩
  | 39 => ⟨S32x32, .f32⟩
  | 40 => ⟨S32x100x100x4, .f32⟩
  | 41 => ⟨S32x40000, .f32⟩
  | 42 => ⟨S32x32, .f32⟩
  | 43 => ⟨S32x100x100x4, .f32⟩
  | 44 => ⟨S32x40000, .f32⟩
  | 45 => ⟨S32x32, .f32⟩
  | 46 => ⟨S32x100x100x4, .f32⟩
  | 47 => ⟨S32x40000, .f32⟩
  | 48 => ⟨S32x32, .f32⟩
  | 49 => ⟨S32x100x100x4, .f32⟩
  | 50 => ⟨S32x40000, .f32⟩
  | 51 => ⟨S32x32, .f32⟩
  | 52 => ⟨S32x100x100x4, .f32⟩
  | 53 => ⟨S32x40000, .f32⟩
  | 54 => ⟨S32x32, .f32⟩
  | 55 => ⟨S32x100x100x4, .f32⟩
  | 56 => ⟨S32x40000, .f32⟩
  | 57 => ⟨S32x32, .f32⟩
  | 58 => ⟨S32x100x100x4, .f32⟩
  | 59 => ⟨S32x40000, .f32⟩
  | 60 => ⟨S32x32, .f32⟩
  | 61 => ⟨S32x100x100x4, .f32⟩
  | 62 => ⟨S32x40000, .f32⟩
  | 63 => ⟨S32x32, .f32⟩
  | 64 => ⟨S32x100x100x4, .f32⟩
  | 65 => ⟨S32x40000, .f32⟩
  | 66 => ⟨S32x32, .f32⟩
  | 67 => ⟨S32x100x100x4, .f32⟩
  | 68 => ⟨S32x40000, .f32⟩
  | 69 => ⟨S32x32, .f32⟩
  | 70 => ⟨S32x100x100x4, .f32⟩
  | 71 => ⟨S32x40000, .f32⟩
  | 72 => ⟨S32x32, .f32⟩
  | 73 => ⟨S32x100x100x4, .f32⟩
  | 74 => ⟨S32x40000, .f32⟩
  | 75 => ⟨S32x32, .f32⟩
  | 76 => ⟨S32x100x100x4, .f32⟩
  | 77 => ⟨S32x40000, .f32⟩
  | 78 => ⟨S32x32, .f32⟩
  | 79 => ⟨S32x100x100x4, .f32⟩
  | 80 => ⟨S32x40000, .f32⟩
  | 81 => ⟨S32x32, .f32⟩
  | 82 => ⟨S32x100x100x4, .f32⟩
  | 83 => ⟨S32x40000, .f32⟩
  | 84 => ⟨S32x32, .f32⟩
  | 85 => ⟨S32x100x100x4, .f32⟩
  | 86 => ⟨S32x40000, .f32⟩
  | 87 => ⟨S32x32, .f32⟩
  | 88 => ⟨S32x100x100x4, .f32⟩
  | 89 => ⟨S32x40000, .f32⟩
  | 90 => ⟨S32x32, .f32⟩
  | 91 => ⟨S32x100x100x4, .f32⟩
  | 92 => ⟨S32x40000, .f32⟩
  | 93 => ⟨S32x32, .f32⟩
  | 94 => ⟨S32x100x100x4, .f32⟩
  | 95 => ⟨S32x40000, .f32⟩
  | 96 => ⟨S32x32, .f32⟩
  | 97 => ⟨S32x100x100x4, .f32⟩
  | 98 => ⟨S32x40000, .f32⟩
  | 99 => ⟨S32x32, .f32⟩
  | 100 => ⟨S32x100x100x4, .f32⟩
  | 101 => ⟨S32x40000, .f32⟩
  | 102 => ⟨S32x32, .f32⟩
  | 103 => ⟨S32x100x100x4, .f32⟩
  | 104 => ⟨S32x40000, .f32⟩
  | 105 => ⟨S32x32, .f32⟩
  | 106 => ⟨S32x100x100x4, .f32⟩
  | 107 => ⟨S32x40000, .f32⟩
  | 108 => ⟨S32x32, .f32⟩
  | 109 => ⟨S32x100x100x4, .f32⟩
  | 110 => ⟨S32x40000, .f32⟩
  | 111 => ⟨S32x32, .f32⟩
  | 112 => ⟨S32x100x100x4, .f32⟩
  | 113 => ⟨S32x40000, .f32⟩
  | 114 => ⟨S32x32, .f32⟩
  | 115 => ⟨S32x100x100x4, .f32⟩
  | 116 => ⟨S32x40000, .f32⟩
  | 117 => ⟨S32x32, .f32⟩
  | 118 => ⟨S32x100x100x4, .f32⟩
  | 119 => ⟨S32x40000, .f32⟩
  | 120 => ⟨S32x32, .f32⟩
  | 121 => ⟨S32x100x100x4, .f32⟩
  | 122 => ⟨S32x40000, .f32⟩
  | 123 => ⟨S32x32, .f32⟩
  | 124 => ⟨S32x100x100x4, .f32⟩
  | 125 => ⟨S32x40000, .f32⟩
  | 126 => ⟨S32x32, .f32⟩
  | 127 => ⟨S32x100x100x4, .f32⟩
  | _ => ⟨S32x100x100x64, .f32⟩

abbrev hbmTy0_1 (i : Nat) : BufTy := match i % 128 with
  | 0 => ⟨S32x40000, .f32⟩
  | 1 => ⟨S32x32, .f32⟩
  | 2 => ⟨S32x100x100x4, .f32⟩
  | 3 => ⟨S32x40000, .f32⟩
  | 4 => ⟨S32x32, .f32⟩
  | 5 => ⟨S32x100x100x4, .f32⟩
  | 6 => ⟨S32x40000, .f32⟩
  | 7 => ⟨S32x32, .f32⟩
  | 8 => ⟨S32x100x100x4, .f32⟩
  | 9 => ⟨S32x40000, .f32⟩
  | 10 => ⟨S32x32, .f32⟩
  | 11 => ⟨S32x100x100x4, .f32⟩
  | 12 => ⟨S32x40000, .f32⟩
  | 13 => ⟨S32x32, .f32⟩
  | 14 => ⟨S32x100x100x4, .f32⟩
  | 15 => ⟨S32x40000, .f32⟩
  | 16 => ⟨S32x32, .f32⟩
  | 17 => ⟨S32x100x100x4, .f32⟩
  | 18 => ⟨S32x40000, .f32⟩
  | 19 => ⟨S32x32, .f32⟩
  | 20 => ⟨S32x100x100x4, .f32⟩
  | 21 => ⟨S32x40000, .f32⟩
  | 22 => ⟨S32x32, .f32⟩
  | 23 => ⟨S32x100x100x4, .f32⟩
  | 24 => ⟨S32x40000, .f32⟩
  | 25 => ⟨S32x32, .f32⟩
  | 26 => ⟨S32x100x100x4, .f32⟩
  | 27 => ⟨S32x40000, .f32⟩
  | 28 => ⟨S32x32, .f32⟩
  | 29 => ⟨S32x100x100x4, .f32⟩
  | 30 => ⟨S32x40000, .f32⟩
  | 31 => ⟨S32x32, .f32⟩
  | 32 => ⟨S32x100x100x4, .f32⟩
  | 33 => ⟨S32x40000, .f32⟩
  | 34 => ⟨S32x32, .f32⟩
  | 35 => ⟨S32x100x100x4, .f32⟩
  | 36 => ⟨S32x40000, .f32⟩
  | 37 => ⟨S32x32, .f32⟩
  | 38 => ⟨S32x100x100x4, .f32⟩
  | 39 => ⟨S32x40000, .f32⟩
  | 40 => ⟨S32x32, .f32⟩
  | 41 => ⟨S32x100x100x4, .f32⟩
  | 42 => ⟨S32x40000, .f32⟩
  | 43 => ⟨S32x32, .f32⟩
  | 44 => ⟨S32x100x100x4, .f32⟩
  | 45 => ⟨S32x40000, .f32⟩
  | 46 => ⟨S32x32, .f32⟩
  | 47 => ⟨S32x100x100x4, .f32⟩
  | 48 => ⟨S32x40000, .f32⟩
  | 49 => ⟨S32x32, .f32⟩
  | 50 => ⟨S32x100x100x4, .f32⟩
  | 51 => ⟨S32x40000, .f32⟩
  | 52 => ⟨S32x32, .f32⟩
  | 53 => ⟨S32x100x100x4, .f32⟩
  | 54 => ⟨S32x40000, .f32⟩
  | 55 => ⟨S32x32, .f32⟩
  | 56 => ⟨S32x100x100x4, .f32⟩
  | 57 => ⟨S32x40000, .f32⟩
  | 58 => ⟨S32x32, .f32⟩
  | 59 => ⟨S32x100x100x4, .f32⟩
  | 60 => ⟨S32x40000, .f32⟩
  | 61 => ⟨S32x32, .f32⟩
  | 62 => ⟨S32x100x100x4, .f32⟩
  | 63 => ⟨S32x40000, .f32⟩
  | 64 => ⟨S32x32, .f32⟩
  | 65 => ⟨S32x100x100x4, .f32⟩
  | 66 => ⟨S32x40000, .f32⟩
  | 67 => ⟨S32x32, .f32⟩
  | 68 => ⟨S32x100x100x4, .f32⟩
  | 69 => ⟨S32x40000, .f32⟩
  | 70 => ⟨S32x32, .f32⟩
  | 71 => ⟨S32x100x100x4, .f32⟩
  | 72 => ⟨S32x40000, .f32⟩
  | 73 => ⟨S32x32, .f32⟩
  | 74 => ⟨S32x100x100x4, .f32⟩
  | 75 => ⟨S32x40000, .f32⟩
  | 76 => ⟨S32x32, .f32⟩
  | 77 => ⟨S32x100x100x4, .f32⟩
  | 78 => ⟨S32x40000, .f32⟩
  | 79 => ⟨S32x32, .f32⟩
  | 80 => ⟨S32x32x1, .f32⟩
  | 81 => ⟨S32x32x1, .f32⟩
  | 82 => ⟨S32x32x1, .f32⟩
  | 83 => ⟨S32x32x1, .f32⟩
  | 84 => ⟨S32x32x1, .f32⟩
  | 85 => ⟨S32x32x1, .f32⟩
  | 86 => ⟨S32x32x1, .f32⟩
  | 87 => ⟨S32x32x1, .f32⟩
  | 88 => ⟨S32x32x1, .f32⟩
  | 89 => ⟨S32x32x1, .f32⟩
  | 90 => ⟨S32x32x1, .f32⟩
  | 91 => ⟨S32x32x1, .f32⟩
  | 92 => ⟨S32x32x1, .f32⟩
  | 93 => ⟨S32x32x1, .f32⟩
  | 94 => ⟨S32x32x1, .f32⟩
  | 95 => ⟨S32x32x1, .f32⟩
  | 96 => ⟨S32x32x1, .f32⟩
  | 97 => ⟨S32x32x1, .f32⟩
  | 98 => ⟨S32x32x1, .f32⟩
  | 99 => ⟨S32x32x1, .f32⟩
  | 100 => ⟨S32x32x1, .f32⟩
  | 101 => ⟨S32x32x1, .f32⟩
  | 102 => ⟨S32x32x1, .f32⟩
  | 103 => ⟨S32x32x1, .f32⟩
  | 104 => ⟨S32x32x1, .f32⟩
  | 105 => ⟨S32x32x1, .f32⟩
  | 106 => ⟨S32x32x1, .f32⟩
  | 107 => ⟨S32x32x1, .f32⟩
  | 108 => ⟨S32x32x1, .f32⟩
  | 109 => ⟨S32x32x1, .f32⟩
  | 110 => ⟨S32x32x1, .f32⟩
  | 111 => ⟨S32x32x1, .f32⟩
  | 112 => ⟨S32x32x1, .f32⟩
  | 113 => ⟨S32x32x1, .f32⟩
  | 114 => ⟨S32x32x1, .f32⟩
  | 115 => ⟨S32x32x1, .f32⟩
  | 116 => ⟨S32x32x1, .f32⟩
  | 117 => ⟨S32x32x1, .f32⟩
  | 118 => ⟨S32x32x1, .f32⟩
  | 119 => ⟨S32x32x1, .f32⟩
  | 120 => ⟨S32x32x1, .f32⟩
  | 121 => ⟨S32x32x1, .f32⟩
  | 122 => ⟨S32x32x1, .f32⟩
  | 123 => ⟨S32x32x1, .f32⟩
  | 124 => ⟨S32x32x1, .f32⟩
  | 125 => ⟨S32x32x1, .f32⟩
  | 126 => ⟨S32x32x1, .f32⟩
  | 127 => ⟨S32x32x1, .f32⟩
  | _ => ⟨S32x100x100x64, .f32⟩

abbrev hbmTy0_2 (i : Nat) : BufTy := match i % 128 with
  | 0 => ⟨S32x32x1, .f32⟩
  | 1 => ⟨S32x32x1, .f32⟩
  | 2 => ⟨S32x32x1, .f32⟩
  | 3 => ⟨S32x32x1, .f32⟩
  | 4 => ⟨S32x32x1, .f32⟩
  | 5 => ⟨S32x32x1, .f32⟩
  | 6 => ⟨S32x32x1, .f32⟩
  | 7 => ⟨S32x32x1, .f32⟩
  | 8 => ⟨S32x32x1, .f32⟩
  | 9 => ⟨S32x32x1, .f32⟩
  | 10 => ⟨S32x32x1, .f32⟩
  | 11 => ⟨S32x32x1, .f32⟩
  | 12 => ⟨S32x32x1, .f32⟩
  | 13 => ⟨S32x32x16, .f32⟩
  | 14 => ⟨S32x32x16, .f32⟩
  | 15 => ⟨S32x32x16, .f32⟩
  | 16 => ⟨S32x32x13, .f32⟩
  | 17 => ⟨S32x32x61, .f32⟩
  | 18 => ⟨S32x32x1x61, .f32⟩
  | _ => ⟨S32x100x100x64, .f32⟩

abbrev hbmTy (i : Nat) : BufTy := match i / 128 with
  | 0 => hbmTy0_0 i
  | 1 => hbmTy0_1 i
  | 2 => hbmTy0_2 i
  | _ => ⟨S32x100x100x64, .f32⟩

abbrev bufTy : (tb : Table) → Fin (tcTables nBuf tb) → BufTy
  | .hbm, ⟨i, _⟩ => hbmTy i
  | _, _ => ⟨S32x100x100x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ValueKit

set_option maxRecDepth 16384

@[expose] public section
noncomputable section

open Idealize.ShloMosaic Idealize.ShloMosaic.TcCoe Idealize.SL.Sem
open Idealize.ShloMosaic.Pipeline (Dat)

namespace Cert.KernelIdeal.Value
open Cert.KernelIdeal Cert.KernelIdeal.Gen

/-! ## What one grid step of the kernel writes

The kernel multiplies the regrouped weights, a 10000 × 128 matrix, by the transformed pixels of one image and adds four
shifted pieces of the product. Everything here is about extended reals. -/

/-- The transformed pixel: `exp (x * nv)` where the pixel is not zero, and zero where it is. -/
def pulse (nv x : EReal) : EReal := if x ≠ 0 then Ideal.exp (x * nv) else 0

/-- One entry of the product: column `r` of the regrouped weights against lane `s` of image `b`, over all 10000 pairs of
vertices, pair `p` being `(p / 100, p % 100)`. -/
def tap (nv : EReal) (X : FVec Ideal S32x100x100x64 .f32) (W : FVec Ideal S10000x128 .f32)
    (b : Fin 32) (r : Fin 128) (s : Fin 64) : EReal :=
  ∑ p : Fin 10000, W (ix2 p r) *
    pulse nv (X (ix4 b ⟨p.val / 100, by omega⟩ ⟨p.val % 100, by omega⟩ s))

/-- The array the grid writes: entry `(b, n, k)` is the sum over `f = 0, 1, 2, 3` of column `32 f + n` against lane
`k + f`, added in the order of the kernel. -/
def conv (nv : EReal) (X : FVec Ideal S32x100x100x64 .f32) (W : FVec Ideal S10000x128 .f32) : FVec Ideal S32x32x61 .f32 :=
  fun j =>
    ((tap nv X W ⟨(j 0).val, (j 0).isLt⟩ ⟨(j 1).val, by have : (j 1).val < 32 := (j 1).isLt; omega⟩ ⟨(j 2).val, by have : (j 2).val < 61 := (j 2).isLt; omega⟩
      + tap nv X W ⟨(j 0).val, (j 0).isLt⟩ ⟨32 + (j 1).val, by have : (j 1).val < 32 := (j 1).isLt; omega⟩ ⟨1 + (j 2).val, by have : (j 2).val < 61 := (j 2).isLt; omega⟩)
      + tap nv X W ⟨(j 0).val, (j 0).isLt⟩ ⟨64 + (j 1).val, by have : (j 1).val < 32 := (j 1).isLt; omega⟩ ⟨2 + (j 2).val, by have : (j 2).val < 61 := (j 2).isLt; omega⟩)
      + tap nv X W ⟨(j 0).val, (j 0).isLt⟩ ⟨96 + (j 1).val, by have : (j 1).val < 32 := (j 1).isLt; omega⟩ ⟨3 + (j 2).val, by have : (j 2).val < 61 := (j 2).isLt; omega⟩

variable (m : (ℓ : Loc nD τ sig) → Buf (Elt Ideal) ℓ)

/-- Which block of its array each window holds at a grid step: the whole scalar, four images, the whole weights, and four
images of the result. -/
theorem idx : ∀ t : Fin cfg0.N, win0_0.index t = ![0, 0] ∧ win0_1.index t = ![t.val, 0, 0, 0]
    ∧ win0_2.index t = ![0, 0] ∧ win0_3.index t = ![t.val, 0, 0] :=
  (by decide +kernel : ∀ t : Fin grid0.N, _)

/-- At a grid step, what the body leaves in the result's block is `conv` of the arrays the step reads, at the place of the
block in the result. The exponent's factor is zero minus the scalar the kernel is handed. -/
theorem point (c : Dev nD) (t : Fin cfg0.N) (y : S4x32x61.Idx) :
    outsAt0 m c t y
      = conv (0 - (V m c main_v8 : FVec Ideal S1x1 .f32) (ix2 0 0)) (V m c main_arg0) (V m c main_v0)
          (((cfg0.win 3).blk t).view.emb y) := by
  unfold outsAt0
  frame_out
  canon_tiles x h
  all_goals
    pointwise [k0_pay1, k0_pay2, k0_pay3, k0_pay4, k0_pay5, k0_pay6, k0_pay7, conv, tap, pulse]
    blk_point [iblk, idx t]

/-- After the whole grid, the array of the result is `conv` of the arrays the grid reads. -/
theorem final (c : Dev nD) :
    (dats m 0 c).arrAt 3 (cfgs 0).N
      = conv (0 - (V m c main_v8 : FVec Ideal S1x1 .f32) (ix2 0 0)) (V m c main_arg0) (V m c main_v0) := by
  refine (dats m 0 c).arrAt_eq_of_covers 3 _ (by decide +kernel) fun t _ y => ?_
  blk_simp
  rw [after0_3]
  exact point m c t y

end Cert.KernelIdeal.Value
-- ==== Proof.KernelRun.lean ====
module

public import proofs.«01_k».proof.Proof.Block

set_option maxRecDepth 16384

@[expose] public section
noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-! ## The kernel's run, with its result named -/

/-- The factor of the pixels the kernel multiplies in the exponent, from the one entry `x` of the call's scalar
argument: ten times the sigmoid of `x`. -/
def gamma (x : EReal) : EReal := Ideal.ofBits .f32 0x41200000#32 * Ideal.div 1 (1 + Ideal.exp (-x))

/-- The scalar the host hands the kernel is `gamma` of the call's argument. -/
theorem gamma_eq (c : Dev nD) :
    (V m c main_v8 : FVec Ideal S1x1 .f32) (ix2 0 0)
      = gamma ((m ((c : Thread nD τ).loc main_arg2) : FVec Ideal S1x1 .f32) (ix2 0 0)) := by
  unfold V V0
  simp only [hostOps0, List.flatten_cons, List.flatten_nil, List.append_nil]
  after_results
  pointwise [gamma]

/-- The weights the grid reads are the weights of the call, regrouped into rows of 128. -/
theorem weights_eq (c : Dev nD) :
    (V m c main_v0 : FVec Ideal S10000x128 .f32)
      = shapeCast S10000x128 (m ((c : Thread nD τ).loc main_arg1) : FVec Ideal S40000x32 .f32) shapeCasts_S40000x32_S10000x128 := by
  unfold V V0
  simp only [hostOps0, List.flatten_cons, List.flatten_nil, List.append_nil]
  after_results
  rfl

/-- After the call, the host gives the grid's result its fourth axis and changes nothing else. -/
theorem tail_eq (c : Dev nD) :
    Pipeline.afterTail₀ cfgs (dats m) 0 (V0 m) [hostOps1] c main_v10
      = broadcastInDim S32x32x1x61 ![0, 1, 3] bcast_S32x32x61_S32x32x1x61_0_1_3
          ((dats m 0 c).arrAt 3 (cfgs 0).N : FVec Ideal S32x32x61 .f32) := by
  unfold Pipeline.afterTail₀
  simp only [hostOps1, List.flatten_cons, List.flatten_nil, List.append_nil]
  after_results
  exact congrArg (broadcastInDim S32x32x1x61 ![0, 1, 3] bcast_S32x32x61_S32x32x1x61_0_1_3)
    (Pipeline.withArrays_arr (cfgs 0).spec (by decide) c (V0 m c) (fun w => (dats m 0 c).arrAt w (cfgs 0).N) 3)

/-- The kernel's result as a function of the call's three arguments: `conv` of the images and the regrouped weights, with
the fourth axis. -/
def result (X : FVec Ideal S32x100x100x64 .f32) (W : FVec Ideal S40000x32 .f32) (g : FVec Ideal S1x1 .f32) :
    FVec Ideal S32x32x1x61 .f32 :=
  broadcastInDim S32x32x1x61 ![0, 1, 3] bcast_S32x32x61_S32x32x1x61_0_1_3
    (conv (0 - gamma (g (ix2 0 0))) X (shapeCast S10000x128 W shapeCasts_S40000x32_S10000x128))

/-- From any memory whose semaphores are zero, the kernel's program runs to its end: its result is `result` of its three
arguments, and the arguments are as they were. -/
theorem run (ρ : Dev nD → PrngReg) :
    θ_run defs (onTc (τ := τ) (main (F := Ideal))) ⟨m, fun _ => 0, ρ⟩ fun r => ∀ c : Dev nD,
      r.2.mem ((c : Thread nD τ).loc main_v10)
          = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun r h c => by
      refine ⟨?_, h.2 c⟩
      refine ((h.1 c).2 main_v10 (Pipeline.mem_restRefs_of main_v10 (by decide) (by decide))).trans ?_
      rw [tail_eq, final, gamma_eq, weights_eq, V_main_arg0]
      rfl)
    (θ_run_and (run_main m ρ) (unchanged m ρ))

end Cert.KernelIdeal.Value
-- ==== Proof.Ref.lean ====
module

public import proofs.«01_k».proof.Proof.Gen.ReferenceIdeal.Run
public import Idealize.ShloMosaic.Lib.Pipeline.ValueKit

set_option maxRecDepth 16384

@[expose] public section
noncomputable section

open Idealize.ShloMosaic Idealize.ShloMosaic.TcCoe Idealize.SL.Sem

namespace Cert.ReferenceIdeal.Value
open Cert.ReferenceIdeal Cert.ReferenceIdeal.Gen

/-! ## The reference's result at an index

The reference transforms every pixel, takes the 61 windows of four lanes, multiplies each, flattened, by the weights, and
stacks the 61 products. -/

/-- The dot product the reference takes at shift `k` for image `b` and output channel `n`: row `q` of the weights against
the transformed pixel of pair `q / 4` of vertices at lane `k + q % 4`. -/
def dotAt (x : FVec Ideal S32x100x100x64 .f32) (W : FVec Ideal S40000x32 .f32) (b n : Fin 32) (k : ℕ) (hk : k < 61) : EReal :=
  ∑ q : Fin 40000,
    x (ix4 b ⟨q.val / 4 / 100, by omega⟩ ⟨q.val / 4 % 100, by omega⟩ ⟨k + q.val % 4, by omega⟩) * W (ix2 q n)

/-- The product of one window, read at an index: the dot product at the window's shift. -/
theorem column_at (x : FVec Ideal S32x100x100x64 .f32) (W : FVec Ideal S40000x32 .f32) (k' : ℕ)
    (hs : Shape.Slices S32x100x100x64 ![0, 0, 0, k'] S32x100x100x4) (i : S32x32x1.Idx) (b n : Fin 32) (k : ℕ) (hk : k < 61)
    (hb : (i 0).val = b.val) (hn : (i 1).val = n.val) (hk' : k' = k) :
    broadcastInDim S32x32x1 ![0, 1] bcast_S32x32_S32x32x1_0_1
      (Host.dotGeneral dot_S32x40000_S40000x32_S32x32_1_0_0_1_n_n none
        (shapeCast S32x40000 (extractStridedSlice S32x100x100x4 ![0, 0, 0, k'] x hs) shapeCasts_S32x100x100x4_S32x40000) W) i
      = dotAt x W b n k hk := by
  subst hk'
  pointwise [dotAt]
  blk_point

/-- The first sixteen products, stacked, at an index. -/
theorem first_at (V0 : Valuation τ sig (Elt Ideal)) (i : S32x32x16.Idx) (b n : Fin 32) (k : ℕ) (hk : k < 61)
    (hb : (i 0).val = b.val) (hn : (i 1).val = n.val) (hi : (i 2).val = k) :
    (res_main_v259 V0 : FVec Ideal S32x32x16 .f32) i
      = dotAt (res_main_v14 V0) (V0 (Proc.devRef .tc main_arg1)) b n k hk := by
  unfold res_main_v259
  concat_tiles l h
  all_goals exact column_at _ _ _ _ l b n k hk (by omega) (by omega) (by omega)

/-- The next sixteen products, stacked, at an index. -/
theorem second_at (V0 : Valuation τ sig (Elt Ideal)) (i : S32x32x16.Idx) (b n : Fin 32) (k : ℕ) (hk : k < 61)
    (hb : (i 0).val = b.val) (hn : (i 1).val = n.val) (hi : (i 2).val + 16 = k) :
    (res_main_v260 V0 : FVec Ideal S32x32x16 .f32) i
      = dotAt (res_main_v14 V0) (V0 (Proc.devRef .tc main_arg1)) b n k hk := by
  unfold res_main_v260
  concat_tiles l h
  all_goals exact column_at _ _ _ _ l b n k hk (by omega) (by omega) (by omega)

/-- The third sixteen products, stacked, at an index. -/
theorem third_at (V0 : Valuation τ sig (Elt Ideal)) (i : S32x32x16.Idx) (b n : Fin 32) (k : ℕ) (hk : k < 61)
    (hb : (i 0).val = b.val) (hn : (i 1).val = n.val) (hi : (i 2).val + 32 = k) :
    (res_main_v261 V0 : FVec Ideal S32x32x16 .f32) i
      = dotAt (res_main_v14 V0) (V0 (Proc.devRef .tc main_arg1)) b n k hk := by
  unfold res_main_v261
  concat_tiles l h
  all_goals exact column_at _ _ _ _ l b n k hk (by omega) (by omega) (by omega)

/-- The last thirteen products, stacked, at an index. -/
theorem last_at (V0 : Valuation τ sig (Elt Ideal)) (i : S32x32x13.Idx) (b n : Fin 32) (k : ℕ) (hk : k < 61)
    (hb : (i 0).val = b.val) (hn : (i 1).val = n.val) (hi : (i 2).val + 48 = k) :
    (res_main_v262 V0 : FVec Ideal S32x32x13 .f32) i
      = dotAt (res_main_v14 V0) (V0 (Proc.devRef .tc main_arg1)) b n k hk := by
  unfold res_main_v262
  concat_tiles l h
  all_goals exact column_at _ _ _ _ l b n k hk (by omega) (by omega) (by omega)

/-- The reference's whole result, as its run states it, over the contents of the call's memory. -/
abbrev stacked (V0 : Valuation τ sig (Elt Ideal)) : FVec Ideal S32x32x1x61 .f32 :=
  broadcastInDim S32x32x1x61 ![0, 1, 3] bcast_S32x32x61_S32x32x1x61_0_1_3
    (concatenate S32x32x61 2 [⟨S32x32x16, (res_main_v259 V0 : FVec Ideal S32x32x16 .f32)⟩,
      ⟨S32x32x16, (res_main_v260 V0 : FVec Ideal S32x32x16 .f32)⟩, ⟨S32x32x16, (res_main_v261 V0 : FVec Ideal S32x32x16 .f32)⟩,
      ⟨S32x32x13, (res_main_v262 V0 : FVec Ideal S32x32x13 .f32)⟩]
      concatenates_S32x32x16_S32x32x16_S32x32x16_S32x32x13_S32x32x61_d2)

/-- The reference's result at an index: the dot product at the index's shift. -/
theorem stacked_at (V0 : Valuation τ sig (Elt Ideal)) (b n : Fin 32) (z : Fin 1) (k : Fin 61) :
    stacked V0 (ix4 b n z k)
      = dotAt (res_main_v14 V0) (V0 (Proc.devRef .tc main_arg1)) b n k.val k.isLt := by
  pointwise [stacked]
  split
  · exact first_at V0 _ b n k.val k.isLt rfl rfl rfl
  split
  · exact second_at V0 _ b n k.val k.isLt rfl rfl (by show k.val - 16 + 16 = k.val; omega)
  split
  · exact third_at V0 _ b n k.val k.isLt rfl rfl (by show k.val - 16 - 16 + 32 = k.val; omega)
  · exact last_at V0 _ b n k.val k.isLt rfl rfl (by show k.val - 16 - 16 - 16 + 48 = k.val; omega)

/-- The transformed pixel of the reference, from the pixel `v` and the call's scalar `g`: `exp` of the pixel times minus ten
times the sigmoid of `g`, or zero where the pixel is zero. -/
theorem x_at (V0 : Valuation τ sig (Elt Ideal)) (i : S32x100x100x64.Idx) (v g : EReal)
    (hv : (V0 (Proc.devRef .tc main_arg0) : FVec Ideal S32x100x100x64 .f32) i = v)
    (hg : (V0 (Proc.devRef .tc main_arg2) : FVec Ideal S1x1 .f32) (ix2 0 0) = g) :
    (res_main_v14 V0 : FVec Ideal S32x100x100x64 .f32) i
      = if v ≠ 0 then Ideal.exp (-(Ideal.ofBits .f32 0x41200000#32 * Ideal.div 1 (1 + Ideal.exp (-g))) * v) else 0 := by
  subst hv hg
  pointwise [res_main_v14, id]

end Cert.ReferenceIdeal.Value
-- ==== Proof.Equation.lean ====
module

public import proofs.«01_k».proof.Proof.KernelRun
public import proofs.«01_k».proof.Proof.Ref

set_option maxRecDepth 16384

@[expose] public section
noncomputable section

open Idealize.ShloMosaic Idealize.ShloMosaic.TcCoe Idealize.SL.Sem

namespace Cert.Equation
open Cert.KernelIdeal.Value Cert.ReferenceIdeal.Value

/-! ## The two formulas agree

The reference sums over rows `q` of the weights; row `4 p + f` holds the weights of pair `p` of vertices at lane offset `f`.
The kernel sums over `p` for each `f` and adds the four sums. -/

/-- Over extended reals, a sum over 40000 rows is the sum, in the order of the kernel, of its four sums over 10000 rows. -/
theorem sum_rows (G : Fin 40000 → EReal) :
    ∑ q, G q
      = (((∑ p : Fin 10000, G ⟨p.val * 4 + 0, by omega⟩) + ∑ p : Fin 10000, G ⟨p.val * 4 + 1, by omega⟩)
          + ∑ p : Fin 10000, G ⟨p.val * 4 + 2, by omega⟩) + ∑ p : Fin 10000, G ⟨p.val * 4 + 3, by omega⟩ := by
  rw [← Finset.sum_add_distrib, ← Finset.sum_add_distrib, ← Finset.sum_add_distrib]
  have h : ∑ p : Fin 10000, ∑ f : Fin 4, G ⟨p.val * 4 + f.val, by omega⟩ = ∑ q, G q :=
    Fin.sum_mul_add_congr fun _ _ _ => rfl
  rw [← h]
  exact Finset.sum_congr rfl fun p _ => Fin.sum_univ_four _

/-- One of the four sums of the kernel is one of the four sums of the reference: column `32 f + n` of the regrouped weights
against lane `f + k` is row `4 p + f`, column `n` of the weights against lane `k + f`. -/
theorem tap_eq (nv : EReal) (X : FVec Ideal Cert.KernelIdeal.S32x100x100x64 .f32) (W : FVec Ideal Cert.KernelIdeal.S40000x32 .f32)
    (x : FVec Ideal Cert.ReferenceIdeal.S32x100x100x64 .f32) (hx : ∀ i, x i = pulse nv (X i))
    (b n : Fin 32) (k f : ℕ) (hk : k < 61) (hf : f < 4) (r : Fin 128) (s : Fin 64) (hr : r.val = 32 * f + n.val) (hs : s.val = f + k) :
    tap nv X (shapeCast Cert.KernelIdeal.S10000x128 W Cert.KernelIdeal.Gen.shapeCasts_S40000x32_S10000x128) b r s
      = ∑ p : Fin 10000, x (ix4 b ⟨(p.val * 4 + f) / 4 / 100, by omega⟩ ⟨(p.val * 4 + f) / 4 % 100, by omega⟩
          ⟨k + (p.val * 4 + f) % 4, by omega⟩) * W (ix2 ⟨p.val * 4 + f, by omega⟩ n) := by
  refine Finset.sum_congr rfl fun p _ => ?_
  rw [hx, mul_comm]
  pointwise
  blk_point

/-- The kernel's result at an index is the reference's dot product there, whatever the arguments, when the reference's
transformed pixels are the kernel's. -/
theorem result_eq (X : FVec Ideal Cert.KernelIdeal.S32x100x100x64 .f32) (W : FVec Ideal Cert.KernelIdeal.S40000x32 .f32)
    (g : FVec Ideal Cert.KernelIdeal.S1x1 .f32) (x : FVec Ideal Cert.ReferenceIdeal.S32x100x100x64 .f32)
    (hx : ∀ i, x i = pulse (0 - gamma (g (ix2 0 0))) (X i)) (b n : Fin 32) (z : Fin 1) (k : Fin 61) :
    result X W g (ix4 b n z k) = dotAt x W b n k.val k.isLt := by
  pointwise [result]
  refine Eq.trans ?_ (sum_rows _).symm
  exact congrArg₂ (· + ·) (congrArg₂ (· + ·) (congrArg₂ (· + ·)
      (tap_eq _ X W x hx b n k.val 0 k.isLt (by omega) _ _ (Nat.zero_add _).symm (Nat.zero_add _).symm)
      (tap_eq _ X W x hx b n k.val 1 k.isLt (by omega) _ _ rfl rfl))
      (tap_eq _ X W x hx b n k.val 2 k.isLt (by omega) _ _ rfl rfl))
      (tap_eq _ X W x hx b n k.val 3 k.isLt (by omega) _ _ rfl rfl)

/-- The transformed pixel of the reference is the kernel's: the factors of the product in the exponent change places, and
minus a number is zero minus the number. -/
theorem pulse_eq (v g : EReal) :
    (if v ≠ 0 then Ideal.exp (-(Ideal.ofBits .f32 0x41200000#32 * Ideal.div 1 (1 + Ideal.exp (-g))) * v) else 0)
      = pulse (0 - gamma g) v := by
  unfold pulse gamma
  rw [zero_sub, mul_comm]

/-- The reference's result over the contents of its call's memory is the kernel's result of the same three arguments. -/
theorem stacked_eq (V0 : Valuation Cert.ReferenceIdeal.τ Cert.ReferenceIdeal.sig (Elt Ideal)) :
    stacked V0 = result (V0 (Proc.devRef .tc Cert.ReferenceIdeal.main_arg0)) (V0 (Proc.devRef .tc Cert.ReferenceIdeal.main_arg1))
      (V0 (Proc.devRef .tc Cert.ReferenceIdeal.main_arg2)) := by
  funext j
  idx_vars j
  refine (stacked_at V0 j0 j1 j2 j3).trans (result_eq _ _ _ _ (fun i => ?_) j0 j1 j2 j3).symm
  exact (x_at V0 i _ _ rfl rfl).trans (pulse_eq _ _)

end Cert.Equation
-- ==== Proof.lean ====
module

public import proofs.«01_k».proof.Proof.Equation
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end from any memory whose semaphores are zero, leaves its arguments as they were, and leaves
every semaphore at zero: it declares none. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- From memories that agree on the three arguments, the kernel and the reference run to their ends with the same result,
over extended reals, and leave their arguments as they were. -/
theorem same_result : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Value.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Value.run m g,
    (θ_run _ _ _).mono (fun r h c => by
        obtain ⟨h0, h1, h2⟩ := hag c
        exact ⟨((h c).1.trans (Cert.Equation.stacked_eq _)).trans
          (congr (congr (congrArg Cert.KernelIdeal.Value.result h0) h1) h2), (h c).2⟩)
      (Cert.ReferenceIdeal.Value.run (F := Ideal) m' g')⟩

/-- Everything the certificate claims: the three frames, that no operation of the kernel was replaced, and that kernel and
reference give the same result. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, same_result⟩

end Cert.Proof

end
